-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x512 : Shape := ⟨3, ![16, 2048, 512]⟩
abbrev S256x512x5 : Shape := ⟨3, ![256, 512, 5]⟩
abbrev S256 : Shape := ⟨1, ![256]⟩
abbrev S256x256x3 : Shape := ⟨3, ![256, 256, 3]⟩
abbrev S2x256x1 : Shape := ⟨3, ![2, 256, 1]⟩
abbrev S2 : Shape := ⟨1, ![2]⟩
abbrev S512x5x256 : Shape := ⟨3, ![512, 5, 256]⟩
abbrev S512x1280 : Shape := ⟨2, ![512, 1280]⟩
abbrev S256x3x256 : Shape := ⟨3, ![256, 3, 256]⟩
abbrev S256x768 : Shape := ⟨2, ![256, 768]⟩
abbrev S2x256 : Shape := ⟨2, ![2, 256]⟩
abbrev S256x2 : Shape := ⟨2, ![256, 2]⟩
abbrev S1x256 : Shape := ⟨2, ![1, 256]⟩
abbrev S1x2 : Shape := ⟨2, ![1, 2]⟩
abbrev S16x2048x2 : Shape := ⟨3, ![16, 2048, 2]⟩
abbrev S2x2048x512 : Shape := ⟨3, ![2, 2048, 512]⟩
abbrev S2x2048x2 : Shape := ⟨3, ![2, 2048, 2]⟩
abbrev S4096x512 : Shape := ⟨2, ![4096, 512]⟩
abbrev S1024x512 : Shape := ⟨2, ![1024, 512]⟩
abbrev S1024x1280 : Shape := ⟨2, ![1024, 1280]⟩
abbrev S4096x1280 : Shape := ⟨2, ![4096, 1280]⟩
abbrev S2048x1280 : Shape := ⟨2, ![2048, 1280]⟩
abbrev S2048x256 : Shape := ⟨2, ![2048, 256]⟩
abbrev S2046x256 : Shape := ⟨2, ![2046, 256]⟩
abbrev S2047x256 : Shape := ⟨2, ![2047, 256]⟩
abbrev S4096x256 : Shape := ⟨2, ![4096, 256]⟩
abbrev S1024x256 : Shape := ⟨2, ![1024, 256]⟩
abbrev S1024x768 : Shape := ⟨2, ![1024, 768]⟩
abbrev S4096x768 : Shape := ⟨2, ![4096, 768]⟩
abbrev S2048x768 : Shape := ⟨2, ![2048, 768]⟩
abbrev S1024x2 : Shape := ⟨2, ![1024, 2]⟩
abbrev S4096x2 : Shape := ⟨2, ![4096, 2]⟩

abbrev nBuf : Space → Nat
  | .hbm => 20
  | .vmem => 10
  | .smem => 0
  | _ => 0

abbrev bufTy : (tb : Table) → Fin (tcTables nBuf tb) → BufTy
  | .hbm, ⟨0, _⟩ => ⟨S16x2048x512, .f32⟩
  | .hbm, ⟨1, _⟩ => ⟨S256x512x5, .f32⟩
  | .hbm, ⟨2, _⟩ => ⟨S256, .f32⟩
  | .hbm, ⟨3, _⟩ => ⟨S256x256x3, .f32⟩
  | .hbm, ⟨4, _⟩ => ⟨S256, .f32⟩
  | .hbm, ⟨5, _⟩ => ⟨S2x256x1, .f32⟩
  | .hbm, ⟨6, _⟩ => ⟨S2, .f32⟩
  | .hbm, ⟨7, _⟩ => ⟨S512x5x256, .f32⟩
  | .hbm, ⟨8, _⟩ => ⟨S512x1280, .f32⟩
  | .hbm, ⟨9, _⟩ => ⟨S512x1280, .bf16⟩
  | .hbm, ⟨10, _⟩ => ⟨S256x3x256, .f32⟩
  | .hbm, ⟨11, _⟩ => ⟨S256x768, .f32⟩
  | .hbm, ⟨12, _⟩ => ⟨S256x768, .bf16⟩
  | .hbm, ⟨13, _⟩ => ⟨S2x256, .f32⟩
  | .hbm, ⟨14, _⟩ => ⟨S256x2, .f32⟩
  | .hbm, ⟨15, _⟩ => ⟨S256x2, .bf16⟩
  | .hbm, ⟨16, _⟩ => ⟨S1x256, .f32⟩
  | .hbm, ⟨17, _⟩ => ⟨S1x256, .f32⟩
  | .hbm, ⟨18, _⟩ => ⟨S1x2, .f32⟩
  | .hbm, ⟨19, _⟩ => ⟨S16x2048x2, .f32⟩
  | .local _ .vmem, ⟨0, _⟩ => ⟨S2x2048x512, .f32⟩
  | .local _ .vmem, ⟨1, _⟩ => ⟨S2x2048x512, .f32⟩
  | .local _ .vmem, ⟨2, _⟩ => ⟨S512x1280, .bf16⟩
  | .local _ .vmem, ⟨3, _⟩ => ⟨S1x256, .f32⟩
  | .local _ .vmem, ⟨4, _⟩ => ⟨S256x768, .bf16⟩
  | .local _ .vmem, ⟨5, _⟩ => ⟨S1x256, .f32⟩
  | .local _ .vmem, ⟨6, _⟩ => ⟨S256x2, .bf16⟩
  | .local _ .vmem, ⟨7, _⟩ => ⟨S1x2, .f32⟩
  | .local _ .vmem, ⟨8, _⟩ => ⟨S2x2048x2, .f32⟩
  | .local _ .vmem, ⟨9, _⟩ => ⟨S2x2048x2, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x2048x512 : Shape := ⟨3, ![16, 2048, 512]⟩
abbrev S256x512x5 : Shape := ⟨3, ![256, 512, 5]⟩
abbrev S256 : Shape := ⟨1, ![256]⟩
abbrev S256x256x3 : Shape := ⟨3, ![256, 256, 3]⟩
abbrev S2x256x1 : Shape := ⟨3, ![2, 256, 1]⟩
abbrev S2 : Shape := ⟨1, ![2]⟩
abbrev S16x512x2048 : Shape := ⟨3, ![16, 512, 2048]⟩
abbrev S_ : Shape := ⟨0, ![]⟩
abbrev S16x512x2052 : Shape := ⟨3, ![16, 512, 2052]⟩
abbrev S256x512x1 : Shape := ⟨3, ![256, 512, 1]⟩
abbrev S256x512 : Shape := ⟨2, ![256, 512]⟩
abbrev S256x16x2048 : Shape := ⟨3, ![256, 16, 2048]⟩
abbrev S16x256x2048 : Shape := ⟨3, ![16, 256, 2048]⟩
abbrev S1x256x1 : Shape := ⟨3, ![1, 256, 1]⟩
abbrev S16x256x2050 : Shape := ⟨3, ![16, 256, 2050]⟩
abbrev S256x256x1 : Shape := ⟨3, ![256, 256, 1]⟩
abbrev S256x256 : Shape := ⟨2, ![256, 256]⟩
abbrev S2x256 : Shape := ⟨2, ![2, 256]⟩
abbrev S2x16x2048 : Shape := ⟨3, ![2, 16, 2048]⟩
abbrev S16x2x2048 : Shape := ⟨3, ![16, 2, 2048]⟩
abbrev S1x2x1 : Shape := ⟨3, ![1, 2, 1]⟩
abbrev S16x2048x2 : Shape := ⟨3, ![16, 2048, 2]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S256x512x5, .f32⟩
  | .hbm, ⟨2, _⟩ => ⟨S256, .f32⟩
  | .hbm, ⟨3, _⟩ => ⟨S256x256x3, .f32⟩
  | .hbm, ⟨4, _⟩ => ⟨S256, .f32⟩
  | .hbm, ⟨5, _⟩ => ⟨S2x256x1, .f32⟩
  | .hbm, ⟨6, _⟩ => ⟨S2, .f32⟩
  | .hbm, ⟨7, _⟩ => ⟨S16x512x2048, .f32⟩
  | .hbm, ⟨8, _⟩ => ⟨S_, .i32⟩
  | .hbm, ⟨9, _⟩ => ⟨S_, .f32⟩
  | .hbm, ⟨10, _⟩ => ⟨S16x512x2052, .f32⟩
  | .hbm, ⟨11, _⟩ => ⟨S16x512x2048, .f32⟩
  | .hbm, ⟨12, _⟩ => ⟨S256x512x1, .f32⟩
  | .hbm, ⟨13, _⟩ => ⟨S256x512, .f32⟩
  | .hbm, ⟨14, _⟩ => ⟨S256x16x2048, .f32⟩
  | .hbm, ⟨15, _⟩ => ⟨S16x256x2048, .f32⟩
  | .hbm, ⟨16, _⟩ => ⟨S16x512x2048, .f32⟩
  | .hbm, ⟨17, _⟩ => ⟨S256x512x1, .f32⟩
  | .hbm, ⟨18, _⟩ => ⟨S256x512, .f32⟩
  | .hbm, ⟨19, _⟩ => ⟨S256x16x2048, .f32⟩
  | .hbm, ⟨20, _⟩ => ⟨S16x256x2048, .f32⟩
  | .hbm, ⟨21, _⟩ => ⟨S16x256x2048, .f32⟩
  | .hbm, ⟨22, _⟩ => ⟨S16x512x2048, .f32⟩
  | .hbm, ⟨23, _⟩ => ⟨S256x512x1, .f32⟩
  | .hbm, ⟨24, _⟩ => ⟨S256x512, .f32⟩
  | .hbm, ⟨25, _⟩ => ⟨S256x16x2048, .f32⟩
  | .hbm, ⟨26, _⟩ => ⟨S16x256x2048, .f32⟩
  | .hbm, ⟨27, _⟩ => ⟨S16x256x2048, .f32⟩
  | .hbm, ⟨28, _⟩ => ⟨S16x512x2048, .f32⟩
  | .hbm, ⟨29, _⟩ => ⟨S256x512x1, .f32⟩
  | .hbm, ⟨30, _⟩ => ⟨S256x512, .f32⟩
  | .hbm, ⟨31, _⟩ => ⟨S256x16x2048, .f32⟩
  | .hbm, ⟨32, _⟩ => ⟨S16x256x2048, .f32⟩
  | .hbm, ⟨33, _⟩ => ⟨S16x256x2048, .f32⟩
  | .hbm, ⟨34, _⟩ => ⟨S16x512x2048, .f32⟩
  | .hbm, ⟨35, _⟩ => ⟨S256x512x1, .f32⟩
  | .hbm, ⟨36, _⟩ => ⟨S256x512, .f32⟩
  | .hbm, ⟨37, _⟩ => ⟨S256x16x2048, .f32⟩
  | .hbm, ⟨38, _⟩ => ⟨S16x256x2048, .f32⟩
  | .hbm, ⟨39, _⟩ => ⟨S16x256x2048, .f32⟩
  | .hbm, ⟨40, _⟩ => ⟨S1x256x1, .f32⟩
  | .hbm, ⟨41, _⟩ => ⟨S16x256x2048, .f32⟩
  | .hbm, ⟨42, _⟩ => ⟨S16x256x2048, .f32⟩
  | .hbm, ⟨43, _⟩ => ⟨S_, .f32⟩
  | .hbm, ⟨44, _⟩ => ⟨S16x256x2048, .f32⟩
  | .hbm, ⟨45, _⟩ => ⟨S16x256x2048, .f32⟩
  | .hbm, ⟨46, _⟩ => ⟨S_, .i32⟩
  | .hbm, ⟨47, _⟩ => ⟨S_, .f32⟩
  | .hbm, ⟨48, _⟩ => ⟨S16x256x2050, .f32⟩
  | .hbm, ⟨49, _⟩ => ⟨S16x256x2048, .f32⟩
  | .hbm, ⟨50, _⟩ => ⟨S256x256x1, .f32⟩
  | .hbm, ⟨51, _⟩ => ⟨S256x256, .f32⟩
  | .hbm, ⟨52, _⟩ => ⟨S256x16x2048, .f32⟩
  | .hbm, ⟨53, _⟩ => ⟨S16x256x2048, .f32⟩
  | .hbm, ⟨54, _⟩ => ⟨S16x256x2048, .f32⟩
  | .hbm, ⟨55, _⟩ => ⟨S256x256x1, .f32⟩
  | .hbm, ⟨56, _⟩ => ⟨S256x256, .f32⟩
  | .hbm, ⟨57, _⟩ => ⟨S256x16x2048, .f32⟩
  | .hbm, ⟨58, _⟩ => ⟨S16x256x2048, .f32⟩
  | .hbm, ⟨59, _⟩ => ⟨S16x256x2048, .f32⟩
  | .hbm, ⟨60, _⟩ => ⟨S16x256x2048, .f32⟩
  | .hbm, ⟨61, _⟩ => ⟨S256x256x1, .f32⟩
  | .hbm, ⟨62, _⟩ => ⟨S256x256, .f32⟩
  | .hbm, ⟨63, _⟩ => ⟨S256x16x2048, .f32⟩
  | .hbm, ⟨64, _⟩ => ⟨S16x256x2048, .f32⟩
  | .hbm, ⟨65, _⟩ => ⟨S16x256x2048, .f32⟩
  | .hbm, ⟨66, _⟩ => ⟨S1x256x1, .f32⟩
  | .hbm, ⟨67, _⟩ => ⟨S16x256x2048, .f32⟩
  | .hbm, ⟨68, _⟩ => ⟨S16x256x2048, .f32⟩
  | .hbm, ⟨69, _⟩ => ⟨S_, .f32⟩
  | .hbm, ⟨70, _⟩ => ⟨S16x256x2048, .f32⟩
  | .hbm, ⟨71, _⟩ => ⟨S16x256x2048, .f32⟩
  | .hbm, ⟨72, _⟩ => ⟨S_, .i32⟩
  | .hbm, ⟨73, _⟩ => ⟨S_, .f32⟩
  | .hbm, ⟨74, _⟩ => ⟨S16x256x2048, .f32⟩
  | .hbm, ⟨75, _⟩ => ⟨S2x256, .f32⟩
  | .hbm, ⟨76, _⟩ => ⟨S2x16x2048, .f32⟩
  | .hbm, ⟨77, _⟩ => ⟨S16x2x2048, .f32⟩
  | .hbm, ⟨78, _⟩ => ⟨S1x2x1, .f32⟩
  | .hbm, ⟨79, _⟩ => ⟨S16x2x2048, .f32⟩
  | .hbm, ⟨80, _⟩ => ⟨S16x2x2048, .f32⟩
  | .hbm, ⟨81, _⟩ => ⟨S16x2048x2, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_c_0 : Ref sig .tc := ⟨.hbm, 46, rfl⟩
abbrev main_call1_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_c_2 : Ref sig .tc := ⟨.hbm, 72, rfl⟩
abbrev main_call2_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Proof.Math.lean ====
/-
  The mathematics of the problem, on plain functions into the extended reals: a sequence read past its ends as zeros,
  one temporal convolution, and the three layers over one sequence. Neither program is mentioned here.
-/
module

public import Idealize.ShloMosaic.PureOps.Ideal

@[expose] public section

noncomputable section

namespace Cert.Conv

/-- Position `n` of the sequence `f` padded with `p` zeros on the left and zeros without end on the right. -/
def padded (f : Fin 2048 → EReal) (p n : ℕ) : EReal :=
  if h : p ≤ n ∧ n - p < 2048 then f ⟨n - p, h.2⟩ else 0

/-- One temporal convolution of odd width `K` with `p` zeros on either side:
    `y[t, o] = ∑ k, ∑ i, x[t + k - p, i] · w[o, i, k] + b[o]`, with `x` zero outside the sequence. -/
def conv {C O K : ℕ} (p : ℕ) (x : Fin 2048 → Fin C → EReal) (w : Fin O → Fin C → Fin K → EReal)
    (b : Fin O → EReal) (t : Fin 2048) (o : Fin O) : EReal :=
  (∑ k : Fin K, ∑ i : Fin C, padded (fun s => x s i) p (t.val + k.val) * w o i k) + b o

/-- A convolution followed by the positive part. -/
def layer {C O K : ℕ} (p : ℕ) (x : Fin 2048 → Fin C → EReal) (w : Fin O → Fin C → Fin K → EReal)
    (b : Fin O → EReal) (t : Fin 2048) (o : Fin O) : EReal :=
  max (conv p x w b t o) 0

/-- The last convolution, of width one: a product over the channels. -/
def dense {C O : ℕ} (x : Fin 2048 → Fin C → EReal) (w : Fin O → Fin C → Fin 1 → EReal)
    (b : Fin O → EReal) (t : Fin 2048) (o : Fin O) : EReal :=
  (∑ i : Fin C, x t i * w o i 0) + b o

/-- The whole network on one sequence. -/
def net (x : Fin 2048 → Fin 512 → EReal) (w1 : Fin 256 → Fin 512 → Fin 5 → EReal) (b1 : Fin 256 → EReal)
    (w2 : Fin 256 → Fin 256 → Fin 3 → EReal) (b2 : Fin 256 → EReal)
    (w3 : Fin 2 → Fin 256 → Fin 1 → EReal) (b3 : Fin 2 → EReal) : Fin 2048 → Fin 2 → EReal :=
  dense (layer 1 (layer 2 x w1 b1) w2 b2) w3 b3

/-- Shifting after the product is the same as shifting before it: the padded sequence of the products
    `∑ i, x[s, i] · w[i]` is the product of the padded sequences. -/
theorem padded_sum {C : ℕ} (x : Fin 2048 → Fin C → EReal) (w : Fin C → EReal) (p n : ℕ) :
    padded (fun s => ∑ i : Fin C, x s i * w i) p n = ∑ i : Fin C, padded (fun s => x s i) p n * w i := by
  unfold padded
  split
  · rfl
  · simp only [zero_mul, Finset.sum_const_zero]

/-- The same of any sequence that holds those products. -/
theorem padded_prod {C : ℕ} {g : Fin 2048 → EReal} {x : Fin 2048 → Fin C → EReal} {w : Fin C → EReal}
    (h : ∀ s, g s = ∑ i : Fin C, x s i * w i) {p n : ℕ} :
    padded g p n = ∑ i : Fin C, padded (fun s => x s i) p n * w i := by
  rw [← padded_sum, show g = _ from funext h]

/-- Where position `n` lies in the left padding the padded sequence is zero. -/
theorem padded_of_lt (f : Fin 2048 → EReal) {p n : ℕ} (h : n < p) : padded f p n = 0 :=
  dif_neg (by omega)

/-- Where position `n` lies past the sequence the padded sequence is zero. -/
theorem padded_of_ge (f : Fin 2048 → EReal) {p n : ℕ} (h : 2048 + p ≤ n) : padded f p n = 0 :=
  dif_neg (by omega)

/-- Where position `n` lies in the sequence the padded sequence is the sequence. -/
theorem padded_of_mem (f : Fin 2048 → EReal) {p n : ℕ} (s : Fin 2048) (h : s.val + p = n) : padded f p n = f s := by
  unfold padded
  rw [dif_pos (by omega)]
  congr 1
  apply Fin.ext
  show n - p = s.val
  omega

/-- A shift towards later rows: zero in the first `d` rows, then the sequence from its start. -/
theorem tap_left (f : Fin 2048 → EReal) (t : Fin 2048) (d k p : ℕ) (hp : p = d + k) :
    (if h : t.val < d then 0 else f ⟨t.val - d, by omega⟩) = padded f p (t.val + k) := by
  split
  · rw [padded_of_lt]; omega
  · rw [padded_of_mem f ⟨t.val - d, by omega⟩]
    show t.val - d + p = t.val + k
    omega

/-- No shift. -/
theorem tap_mid (f : Fin 2048 → EReal) (t : Fin 2048) (p : ℕ) : f t = padded f p (t.val + p) :=
  (padded_of_mem f t rfl).symm

/-- A shift towards earlier rows: the sequence without its first `d` rows, then `d` rows of zeros. -/
theorem tap_right (f : Fin 2048 → EReal) (t : Fin 2048) (d e k p : ℕ) (he : d + e = 2048) (hk : k = p + d) :
    (if h : t.val < e then f ⟨d + t.val, by omega⟩ else 0) = padded f p (t.val + k) := by
  split
  · rw [padded_of_mem f ⟨d + t.val, by omega⟩]
    show d + t.val + p = t.val + k
    omega
  · rw [padded_of_ge]; omega

/-- A convolution of width five as the kernel sums it: the bias, then the five products, each shifted after it was taken. -/
theorem five_taps {C O : ℕ} (x : Fin 2048 → Fin C → EReal) (w : Fin O → Fin C → Fin 5 → EReal) (b : Fin O → EReal)
    (t : Fin 2048) (o : Fin O) (g0 g1 g2 g3 g4 : Fin 2048 → EReal)
    (h0 : ∀ s, g0 s = ∑ i, x s i * w o i 0) (h1 : ∀ s, g1 s = ∑ i, x s i * w o i 1)
    (h2 : ∀ s, g2 s = ∑ i, x s i * w o i 2) (h3 : ∀ s, g3 s = ∑ i, x s i * w o i 3)
    (h4 : ∀ s, g4 s = ∑ i, x s i * w o i 4) :
    ((((b o + if h : t.val < 2 then 0 else g0 ⟨t.val - 2, by omega⟩)
            + if h : t.val < 1 then 0 else g1 ⟨t.val - 1, by omega⟩)
          + g2 t
        + if h : t.val < 2047 then g3 ⟨1 + t.val, by omega⟩ else 0)
      + if h : t.val < 2046 then g4 ⟨2 + t.val, by omega⟩ else 0)
      = conv 2 x w b t o := by
  rw [tap_left g0 t 2 0 2 rfl, tap_left g1 t 1 1 2 rfl, tap_mid g2 t 2, tap_right g3 t 1 2047 3 2 rfl rfl,
    tap_right g4 t 2 2046 4 2 rfl rfl, padded_prod h0, padded_prod h1, padded_prod h2, padded_prod h3, padded_prod h4]
  unfold conv
  rw [Fin.sum_univ_five, add_comm _ (b o)]
  simp only [add_assoc]
  rfl

/-- A convolution of width three, summed in the same way. -/
theorem three_taps {C O : ℕ} (x : Fin 2048 → Fin C → EReal) (w : Fin O → Fin C → Fin 3 → EReal) (b : Fin O → EReal)
    (t : Fin 2048) (o : Fin O) (g0 g1 g2 : Fin 2048 → EReal)
    (h0 : ∀ s, g0 s = ∑ i, x s i * w o i 0) (h1 : ∀ s, g1 s = ∑ i, x s i * w o i 1)
    (h2 : ∀ s, g2 s = ∑ i, x s i * w o i 2) :
    (((b o + if h : t.val < 1 then 0 else g0 ⟨t.val - 1, by omega⟩)
          + g1 t)
        + if h : t.val < 2047 then g2 ⟨1 + t.val, by omega⟩ else 0)
      = conv 1 x w b t o := by
  rw [tap_left g0 t 1 0 1 rfl, tap_mid g1 t 1, tap_right g2 t 1 2047 2 1 rfl rfl, padded_prod h0, padded_prod h1,
    padded_prod h2]
  unfold conv
  rw [Fin.sum_univ_three, add_comm _ (b o)]
  simp only [add_assoc]
  rfl

/-- Two sequences of 2048 rows stacked into 4096: row `r` is row `r % 2048` of sequence `r / 2048`. -/
theorem stacked (P : Fin 2 → Fin 2048 → EReal) (r : Fin 4096) (a : r.val < 2048 → EReal) (b : ¬ r.val < 2048 → EReal)
    (ha : ∀ h, a h = P 0 ⟨r.val, h⟩) (hb : ∀ h, b h = P 1 ⟨r.val - 2048, by omega⟩) :
    dite (r.val < 2048) a b = P ⟨r.val / 2048, by omega⟩ ⟨r.val % 2048, by omega⟩ := by
  by_cases h : r.val < 2048
  · rw [dif_pos h, ha h]
    exact congr (congrArg P (Fin.ext (by show 0 = r.val / 2048; omega))) (Fin.ext (by show r.val = r.val % 2048; omega))
  · rw [dif_neg h, hb h]
    exact congr (congrArg P (Fin.ext (by show 1 = r.val / 2048; omega))) (Fin.ext (by show r.val - 2048 = r.val % 2048; omega))

end Cert.Conv

end
-- ==== Proof.Block.lean ====
/-
  What one grid step of the kernel computes, at an index: its payloads read down to sums over the blocks that it loads.
-/
module

public import proofs.«01_k».proof.Proof.Math
public import proofs.«01_k».proof.Proof.Gen.KernelIdeal.Skeleton
public import Idealize.ShloMosaic.Lib.Pointwise

@[expose] public section

set_option maxRecDepth 16384

noncomputable section

namespace Cert.Conv

open Cert.KernelIdeal Cert.KernelIdeal.Gen Idealize.ShloMosaic

/-- The first product, taken in four chunks of rows, is the whole product. -/
theorem prod1_apply (x : FVec Ideal S2x2048x512 .f32) (w : FVec Ideal S512x1280 .bf16) (r : Fin 4096) (j : Fin 1280) :
    k0_pay2 x w (ix2 r j)
      = ∑ c : Fin 512, x (ix3 ⟨r.val / 2048, by omega⟩ ⟨r.val % 2048, by omega⟩ c) * w (ix2 c j) := by
  pointwise [k0_pay2]
  split
  · rfl
  split
  · have e : 1024 + (r.val - 1024) = r.val := by omega
    simp only [e]
  split
  · have e : 2048 + (r.val - 1024 - 1024) = r.val := by omega
    simp only [e]
  · have e : 3072 + (r.val - 1024 - 1024 - 1024) = r.val := by omega
    simp only [e]

/-- Column `o` of tap `k` in the weights of the first layer, laid out tap after tap. -/
def col5 (k : Fin 5) (o : Fin 256) : Fin 1280 := ⟨256 * k.val + o.val, by omega⟩

/-- Column `o` of tap `k` in the weights of the second layer. -/
def col3 (k : Fin 3) (o : Fin 256) : Fin 768 := ⟨256 * k.val + o.val, by omega⟩

/-- Sequence `g` of the block, as a function of time and channel. -/
def seqOf (x : FVec Ideal S2x2048x512 .f32) (g : Fin 2) : Fin 2048 → Fin 512 → EReal := fun t c => x (ix3 g t c)

/-- The first layer's weights by output channel, input channel and tap. -/
def taps5 (w : FVec Ideal S512x1280 .bf16) : Fin 256 → Fin 512 → Fin 5 → EReal := fun o c k => w (ix2 c (col5 k o))

/-- The second layer's weights by output channel, input channel and tap. -/
def taps3 (w : FVec Ideal S256x768 .bf16) : Fin 256 → Fin 256 → Fin 3 → EReal := fun o c k => w (ix2 c (col3 k o))

/-- The last layer's weights by output channel and input channel. -/
def taps1 (w : FVec Ideal S256x2 .bf16) : Fin 2 → Fin 256 → Fin 1 → EReal := fun o c _ => w (ix2 c o)

/-- A row of biases as a function of the channel. -/
def biasOf (b : FVec Ideal S1x256 .f32) : Fin 256 → EReal := fun o => b (ix2 0 o)

/-- The last layer's row of biases. -/
def biasOf2 (b : FVec Ideal S1x2 .f32) : Fin 2 → EReal := fun o => b (ix2 0 o)

/-- A row and a column of the first product, as one tap's product over the channels of one sequence. -/
theorem prod1_tap (x : FVec Ideal S2x2048x512 .f32) (w : FVec Ideal S512x1280 .bf16) (g : Fin 2) (s : Fin 2048)
    (k : Fin 5) (o : Fin 256) (r : Fin 4096) (j : Fin 1280) (hr : r.val = 2048 * g.val + s.val)
    (hj : j.val = 256 * k.val + o.val) :
    k0_pay2 (F := Ideal) x w (ix2 r j) = ∑ c, seqOf x g s c * taps5 w o c k := by
  have e1 : (⟨r.val / 2048, by omega⟩ : Fin 2) = g := Fin.ext (by show r.val / 2048 = g.val; omega)
  have e2 : (⟨r.val % 2048, by omega⟩ : Fin 2048) = s := Fin.ext (by show r.val % 2048 = s.val; omega)
  have e3 : j = col5 k o := Fin.ext hj
  rw [prod1_apply, e1, e2, e3]
  rfl

/-- The first layer before the positive part, of the block's first sequence. -/
theorem conv1_first (x : FVec Ideal S2x2048x512 .f32) (w : FVec Ideal S512x1280 .bf16) (b : FVec Ideal S1x256 .f32)
    (t : Fin 2048) (o : Fin 256) :
    k0_pay4 (F := Ideal) x w b (ix2 t o) = conv 2 (seqOf x 0) (taps5 w) (biasOf b) t o := by
  have hz := prod1_tap x w 0
  unfold k0_pay4
  generalize k0_pay2 (F := Ideal) x w = z at hz
  pointwise [k0_pay3]
  exact five_taps (seqOf x 0) (taps5 w) (biasOf b) t o
    (fun s => z (ix2 ⟨s.val, by omega⟩ ⟨o.val, by omega⟩)) (fun s => z (ix2 ⟨s.val, by omega⟩ ⟨256 + o.val, by omega⟩))
    (fun s => z (ix2 ⟨s.val, by omega⟩ ⟨512 + o.val, by omega⟩)) (fun s => z (ix2 ⟨s.val, by omega⟩ ⟨768 + o.val, by omega⟩))
    (fun s => z (ix2 ⟨s.val, by omega⟩ ⟨1024 + o.val, by omega⟩))
    (fun s => hz s 0 o _ _ (by simp) (by simp)) (fun s => hz s 1 o _ _ (by simp) (by simp))
    (fun s => hz s 2 o _ _ (by simp) (by simp)) (fun s => hz s 3 o _ _ (by simp) (by simp))
    (fun s => hz s 4 o _ _ (by simp) (by simp))

/-- The second product, taken in four chunks of rows over the first layer of both sequences, is the whole product. -/
theorem prod2_apply (x : FVec Ideal S2x2048x512 .f32) (w : FVec Ideal S512x1280 .bf16) (b : FVec Ideal S1x256 .f32)
    (w2 : FVec Ideal S256x768 .bf16) (r : Fin 4096) (j : Fin 768) :
    k0_pay8 (F := Ideal) (k0_pay3 b) (k0_pay4 x w b) (k0_pay5 x w) (k0_pay6 x w) k0_pay7 w2 (ix2 r j)
      = ∑ c : Fin 256, layer 2 (seqOf x ⟨r.val / 2048, by omega⟩) (taps5 w) (biasOf b) ⟨r.val % 2048, by omega⟩ c
          * w2 (ix2 c j) := by
  have hc := conv1_first x w b
  generalize k0_pay4 (F := Ideal) x w b = v39 at hc
  unfold k0_pay8
  generalize hh : truncf (F := Ideal) .bf16 (maximumf _ _) _ = h
  have hv : ∀ (r : Fin 4096) (c : Fin 256), h (ix2 r c)
      = layer 2 (seqOf x ⟨r.val / 2048, by omega⟩) (taps5 w) (biasOf b) ⟨r.val % 2048, by omega⟩ c := by
    intro r c
    rw [← hh]
    have hz := prod1_tap x w 1
    unfold k0_pay6 k0_pay5
    generalize k0_pay2 (F := Ideal) x w = z at hz
    pointwise [k0_pay3, k0_pay7]
    unfold layer
    refine congrArg (max · 0) (stacked (fun g t => conv 2 (seqOf x g) (taps5 w) (biasOf b) t c) r _ _
      (fun h => hc _ _) (fun h => ?_))
    exact five_taps (seqOf x 1) (taps5 w) (biasOf b) ⟨r.val - 2048, by omega⟩ c
        (fun s => z (ix2 ⟨2048 + s.val, by omega⟩ ⟨c.val, by omega⟩)) (fun s => z (ix2 ⟨2048 + s.val, by omega⟩ ⟨256 + c.val, by omega⟩))
        (fun s => z (ix2 ⟨2048 + s.val, by omega⟩ ⟨512 + c.val, by omega⟩)) (fun s => z (ix2 ⟨2048 + s.val, by omega⟩ ⟨768 + c.val, by omega⟩))
        (fun s => z (ix2 ⟨2048 + s.val, by omega⟩ ⟨1024 + c.val, by omega⟩))
        (fun s => hz s 0 c _ _ (by simp) (by simp)) (fun s => hz s 1 c _ _ (by simp) (by simp))
        (fun s => hz s 2 c _ _ (by simp) (by simp)) (fun s => hz s 3 c _ _ (by simp) (by simp))
        (fun s => hz s 4 c _ _ (by simp) (by simp))
  clear hh
  simp only [← hv]
  pointwise []
  split
  · rfl
  split
  · have e : 1024 + (r.val - 1024) = r.val := by omega
    simp only [e]
  split
  · have e : 2048 + (r.val - 1024 - 1024) = r.val := by omega
    simp only [e]
  · have e : 3072 + (r.val - 1024 - 1024 - 1024) = r.val := by omega
    simp only [e]

/-- A row and a column of the second product, as one tap's product over the channels of the first layer. -/
theorem prod2_tap (x : FVec Ideal S2x2048x512 .f32) (w : FVec Ideal S512x1280 .bf16) (b : FVec Ideal S1x256 .f32)
    (w2 : FVec Ideal S256x768 .bf16) (g : Fin 2) (s : Fin 2048) (k : Fin 3) (o : Fin 256) (r : Fin 4096) (j : Fin 768)
    (hr : r.val = 2048 * g.val + s.val) (hj : j.val = 256 * k.val + o.val) :
    k0_pay8 (F := Ideal) (k0_pay3 b) (k0_pay4 x w b) (k0_pay5 x w) (k0_pay6 x w) k0_pay7 w2 (ix2 r j)
      = ∑ c, layer 2 (seqOf x g) (taps5 w) (biasOf b) s c * taps3 w2 o c k := by
  have e1 : (⟨r.val / 2048, by omega⟩ : Fin 2) = g := Fin.ext (by show r.val / 2048 = g.val; omega)
  have e2 : (⟨r.val % 2048, by omega⟩ : Fin 2048) = s := Fin.ext (by show r.val % 2048 = s.val; omega)
  have e3 : j = col3 k o := Fin.ext hj
  rw [prod2_apply, e1, e2, e3]
  rfl

/-- What a grid step stores, at sequence `g`, time `t` and output channel `o`: the network on that sequence. -/
theorem stored_apply (x : FVec Ideal S2x2048x512 .f32) (w : FVec Ideal S512x1280 .bf16) (b : FVec Ideal S1x256 .f32)
    (w2 : FVec Ideal S256x768 .bf16) (b2 : FVec Ideal S1x256 .f32) (w3 : FVec Ideal S256x2 .bf16)
    (b3 : FVec Ideal S1x2 .f32) (g : Fin 2) (t : Fin 2048) (o : Fin 2) :
    k0_pay1 (F := Ideal) (k0_pay8 (k0_pay3 b) (k0_pay4 x w b) (k0_pay5 x w) (k0_pay6 x w) k0_pay7 w2) (k0_pay9 b2)
        (k0_pay10 (k0_pay3 b) (k0_pay4 x w b) (k0_pay5 x w) (k0_pay6 x w) k0_pay7 w2)
        (k0_pay11 (k0_pay3 b) (k0_pay4 x w b) (k0_pay5 x w) (k0_pay6 x w) k0_pay7 w2 b2) w3 b3 (ix3 g t o)
      = net (seqOf x g) (taps5 w) (biasOf b) (taps3 w2) (biasOf b2) (taps1 w3) (biasOf2 b3) t o := by
  have hz := prod2_tap x w b w2
  unfold k0_pay11 k0_pay10
  generalize k0_pay8 (F := Ideal) (k0_pay3 b) (k0_pay4 x w b) (k0_pay5 x w) (k0_pay6 x w) k0_pay7 w2 = z at hz
  unfold net
  obtain ⟨y, hy⟩ : ∃ y : Fin 2 → Fin 2048 → Fin 256 → EReal, ∀ g, layer 2 (seqOf x g) (taps5 w) (biasOf b) = y g :=
    ⟨_, fun _ => rfl⟩
  simp only [hy] at hz ⊢
  unfold k0_pay1
  generalize hh : truncf (F := Ideal) .bf16 (maximumf _ _) _ = h
  have hv : ∀ (r : Fin 4096) (c : Fin 256), h (ix2 r c)
      = layer 1 (y ⟨r.val / 2048, by omega⟩) (taps3 w2) (biasOf b2) ⟨r.val % 2048, by omega⟩ c := by
    intro r c
    rw [← hh]
    pointwise [k0_pay9]
    unfold layer
    refine congrArg (max · 0) (stacked (fun g t => conv 1 (y g) (taps3 w2) (biasOf b2) t c) r _ _
      (fun h => ?_) (fun h => ?_))
    · exact three_taps (y 0) (taps3 w2) (biasOf b2) ⟨r.val, h⟩ c
        (fun s => z (ix2 ⟨s.val, by omega⟩ ⟨c.val, by omega⟩)) (fun s => z (ix2 ⟨s.val, by omega⟩ ⟨256 + c.val, by omega⟩))
        (fun s => z (ix2 ⟨s.val, by omega⟩ ⟨512 + c.val, by omega⟩))
        (fun s => hz 0 s 0 c _ _ (by simp) (by simp)) (fun s => hz 0 s 1 c _ _ (by simp) (by simp))
        (fun s => hz 0 s 2 c _ _ (by simp) (by simp))
    · exact three_taps (y 1) (taps3 w2) (biasOf b2) ⟨r.val - 2048, by omega⟩ c
        (fun s => z (ix2 ⟨2048 + s.val, by omega⟩ ⟨c.val, by omega⟩)) (fun s => z (ix2 ⟨2048 + s.val, by omega⟩ ⟨256 + c.val, by omega⟩))
        (fun s => z (ix2 ⟨2048 + s.val, by omega⟩ ⟨512 + c.val, by omega⟩))
        (fun s => hz 1 s 0 c _ _ (by simp) (by simp)) (fun s => hz 1 s 1 c _ _ (by simp) (by simp))
        (fun s => hz 1 s 2 c _ _ (by simp) (by simp))
  clear hh
  have hrow : ∀ (n : ℕ) (hn : n < 4096) (c : Fin 256), n = 2048 * g.val + t.val →
      h (ix2 ⟨n, hn⟩ c) = layer 1 (y g) (taps3 w2) (biasOf b2) t c := by
    intro n hn c e
    have e1 : (⟨n / 2048, by omega⟩ : Fin 2) = g := Fin.ext (by show n / 2048 = g.val; omega)
    have e2 : (⟨n % 2048, by omega⟩ : Fin 2048) = t := Fin.ext (by show n % 2048 = t.val; omega)
    rw [hv]
    show layer 1 (y ⟨n / 2048, _⟩) _ _ ⟨n % 2048, _⟩ c = _
    rw [e1, e2]
  clear hv
  pointwise []
  refine congrArg (· + b3 (ix2 0 o)) ?_
  split
  · exact Finset.sum_congr rfl fun c _ => congrArg (· * w3 (ix2 c o)) (hrow _ _ c (by omega))
  split
  · exact Finset.sum_congr rfl fun c _ => congrArg (· * w3 (ix2 c o)) (hrow _ _ c (by omega))
  split
  · exact Finset.sum_congr rfl fun c _ => congrArg (· * w3 (ix2 c o)) (hrow _ _ c (by omega))
  · exact Finset.sum_congr rfl fun c _ => congrArg (· * w3 (ix2 c o)) (hrow _ _ c (by omega))

end Cert.Conv

end
-- ==== Proof.Result.lean ====
/-
  The kernel's result array: each grid step reads two sequences and the whole weights, and stores the network on both.
-/
module

public import proofs.«01_k».proof.Proof.Block
public import proofs.«01_k».proof.Proof.Gen.KernelIdeal.Value
public import Idealize.ShloMosaic.Lib.Pointwise
public import Idealize.ShloMosaic.Lib.Pipeline.ValueKit.Geometry
public import Idealize.ShloMosaic.Lib.StableHlo.ReadAt

@[expose] public section

set_option maxRecDepth 16384

noncomputable section

namespace Cert.Conv.Result

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Sequence `n` of the batch. -/
def seq (n : Fin 16) : Fin 2048 → Fin 512 → EReal := fun t i => m ((c : Thread nD τ).loc main_arg0) (ix3 n t i)
/-- The first layer's weights. -/
def w1 : Fin 256 → Fin 512 → Fin 5 → EReal := fun o i k => m ((c : Thread nD τ).loc main_arg1) (ix3 o i k)
/-- The first layer's biases. -/
def b1 : Fin 256 → EReal := fun o => m ((c : Thread nD τ).loc main_arg2) (ix1 o)
/-- The second layer's weights. -/
def w2 : Fin 256 → Fin 256 → Fin 3 → EReal := fun o i k => m ((c : Thread nD τ).loc main_arg3) (ix3 o i k)
/-- The second layer's biases. -/
def b2 : Fin 256 → EReal := fun o => m ((c : Thread nD τ).loc main_arg4) (ix1 o)
/-- The last layer's weights. -/
def w3 : Fin 2 → Fin 256 → Fin 1 → EReal := fun o i k => m ((c : Thread nD τ).loc main_arg5) (ix3 o i k)
/-- The last layer's biases. -/
def b3 : Fin 2 → EReal := fun o => m ((c : Thread nD τ).loc main_arg6) (ix1 o)

/-! ## What one step stores -/

/-- Two zero offsets. -/
theorem zero2 : (![0, 0] : Fin 2 → Nat) = fun _ => 0 := funext fun a => by fin_cases a <;> rfl
/-- Three zero offsets. -/
theorem zero3 : (![0, 0, 0] : Fin 3 → Nat) = fun _ => 0 := funext fun a => by fin_cases a <;> rfl

/-- The block that a step stores, from the blocks that it loads whole. -/
theorem out_apply (x0 : Vec Ideal S2x2048x512 .f32) (x1 : Vec Ideal S512x1280 .bf16) (x2 : Vec Ideal S1x256 .f32)
    (x3 : Vec Ideal S256x768 .bf16) (x4 : Vec Ideal S1x256 .f32) (x5 : Vec Ideal S256x2 .bf16) (x6 : Vec Ideal S1x2 .f32)
    (g : Fin 2) (t : Fin 2048) (o : Fin 2) :
    out0_7 (F := Ideal) x0 x1 x2 x3 x4 x5 x6 (ix3 g t o)
      = net (seqOf x0 g) (taps5 x1) (biasOf x2) (taps3 x3) (biasOf x4) (taps1 x5) (biasOf2 x6) t o := by
  unfold_out out0_7
  rw [View.canon_unit_zero zero3]
  repeat first
    | rw [View.ld_unit_zero zero2]
    | rw [View.ld_unit_zero zero3]
  exact stored_apply x0 x1 x2 x3 x4 x5 x6 g t o

/-! ## The weights as the steps find them -/

/-- The first layer's weights before the steps: tap `k` of output channel `o` in column `256 k + o`. -/
theorem entry_w1 : taps5 (V m c main_v2) = w1 m c := by
  funext o i k
  unfold taps5 w1 V
  after_reads_at
  have e1 : (col5 k o).val % 256 = o.val := by
    show (256 * k.val + o.val) % 256 = o.val
    omega
  have e2 : (col5 k o).val / 256 = k.val := by
    show (256 * k.val + o.val) / 256 = k.val
    omega
  simp only [e1, e2]

/-- The second layer's weights before the steps. -/
theorem entry_w2 : taps3 (V m c main_v5) = w2 m c := by
  funext o i k
  unfold taps3 w2 V
  after_reads_at
  have e1 : (col3 k o).val % 256 = o.val := by
    show (256 * k.val + o.val) % 256 = o.val
    omega
  have e2 : (col3 k o).val / 256 = k.val := by
    show (256 * k.val + o.val) / 256 = k.val
    omega
  simp only [e1, e2]

/-- The last layer's weights before the steps. -/
theorem entry_w3 : taps1 (V m c main_v8) = w3 m c := by
  funext o i k
  unfold taps1 w3 V
  after_reads_at
  rw [Subsingleton.elim k 0]

/-- The first layer's biases before the steps. -/
theorem entry_b1 : biasOf (V m c main_v9) = b1 m c := by
  funext o
  unfold biasOf b1 V
  after_reads_at

/-- The second layer's biases before the steps. -/
theorem entry_b2 : biasOf (V m c main_v10) = b2 m c := by
  funext o
  unfold biasOf b2 V
  after_reads_at

/-- The last layer's biases before the steps. -/
theorem entry_b3 : biasOf2 (V m c main_v11) = b3 m c := by
  funext o
  unfold biasOf2 b3 V
  after_reads_at

/-! ## The blocks -/

/-- Step `t` reads sequences `2 t` and `2 t + 1`. -/
theorem block0 (t : Fin cfg0.N) (g : Fin 2) (n : Fin 16) (h : n.val = 2 * t.val + g.val) :
    seqOf (iblk m c 0 t) g = seq m c n := by
  have e : ∀ t : Fin cfg0.N, win0_0.index t 0 = t.val ∧ win0_0.index t 1 = 0 ∧ win0_0.index t 2 = 0 := by decide +kernel
  funext s i
  unfold seqOf seq iblk
  rw [View.read_apply]
  show V m c main_arg0 _ = _
  rw [V_main_arg0]
  congr 1
  funext a
  apply Fin.ext
  match a with
  | ⟨0, _⟩ => show win0_0.index t 0 * 2 + 1 * g.val = n.val; rw [(e t).1]; omega
  | ⟨1, _⟩ => show win0_0.index t 1 * 2048 + 1 * s.val = s.val; rw [(e t).2.1]; omega
  | ⟨2, _⟩ => show win0_0.index t 2 * 512 + 1 * i.val = i.val; rw [(e t).2.2]; omega

/-- Every step reads the first layer's weights whole. -/
theorem block1 (t : Fin cfg0.N) : iblk m c 1 t = V m c main_v2 := by
  funext j
  have e : win0_1.index t 0 = 0 ∧ win0_1.index t 1 = 0 := ⟨rfl, rfl⟩
  unfold iblk
  rw [View.read_apply]
  show V m c main_v2 _ = V m c main_v2 j
  congr 1
  funext a
  apply Fin.ext
  match a with
  | ⟨0, _⟩ => show win0_1.index t 0 * _ + 1 * (j 0).val = (j 0).val; rw [e.1]; omega
  | ⟨1, _⟩ => show win0_1.index t 1 * _ + 1 * (j 1).val = (j 1).val; rw [e.2]; omega

/-- Every step reads the first layer's biases whole. -/
theorem block2 (t : Fin cfg0.N) : iblk m c 2 t = V m c main_v9 := by
  funext j
  have e : win0_2.index t 0 = 0 ∧ win0_2.index t 1 = 0 := ⟨rfl, rfl⟩
  unfold iblk
  rw [View.read_apply]
  show V m c main_v9 _ = V m c main_v9 j
  congr 1
  funext a
  apply Fin.ext
  match a with
  | ⟨0, _⟩ => show win0_2.index t 0 * _ + 1 * (j 0).val = (j 0).val; rw [e.1]; omega
  | ⟨1, _⟩ => show win0_2.index t 1 * _ + 1 * (j 1).val = (j 1).val; rw [e.2]; omega

/-- Every step reads the second layer's weights whole. -/
theorem block3 (t : Fin cfg0.N) : iblk m c 3 t = V m c main_v5 := by
  funext j
  have e : win0_3.index t 0 = 0 ∧ win0_3.index t 1 = 0 := ⟨rfl, rfl⟩
  unfold iblk
  rw [View.read_apply]
  show V m c main_v5 _ = V m c main_v5 j
  congr 1
  funext a
  apply Fin.ext
  match a with
  | ⟨0, _⟩ => show win0_3.index t 0 * _ + 1 * (j 0).val = (j 0).val; rw [e.1]; omega
  | ⟨1, _⟩ => show win0_3.index t 1 * _ + 1 * (j 1).val = (j 1).val; rw [e.2]; omega

/-- Every step reads the second layer's biases whole. -/
theorem block4 (t : Fin cfg0.N) : iblk m c 4 t = V m c main_v10 := by
  funext j
  have e : win0_4.index t 0 = 0 ∧ win0_4.index t 1 = 0 := ⟨rfl, rfl⟩
  unfold iblk
  rw [View.read_apply]
  show V m c main_v10 _ = V m c main_v10 j
  congr 1
  funext a
  apply Fin.ext
  match a with
  | ⟨0, _⟩ => show win0_4.index t 0 * _ + 1 * (j 0).val = (j 0).val; rw [e.1]; omega
  | ⟨1, _⟩ => show win0_4.index t 1 * _ + 1 * (j 1).val = (j 1).val; rw [e.2]; omega

/-- Every step reads the last layer's weights whole. -/
theorem block5 (t : Fin cfg0.N) : iblk m c 5 t = V m c main_v8 := by
  funext j
  have e : win0_5.index t 0 = 0 ∧ win0_5.index t 1 = 0 := ⟨rfl, rfl⟩
  unfold iblk
  rw [View.read_apply]
  show V m c main_v8 _ = V m c main_v8 j
  congr 1
  funext a
  apply Fin.ext
  match a with
  | ⟨0, _⟩ => show win0_5.index t 0 * _ + 1 * (j 0).val = (j 0).val; rw [e.1]; omega
  | ⟨1, _⟩ => show win0_5.index t 1 * _ + 1 * (j 1).val = (j 1).val; rw [e.2]; omega

/-- Every step reads the last layer's biases whole. -/
theorem block6 (t : Fin cfg0.N) : iblk m c 6 t = V m c main_v11 := by
  funext j
  have e : win0_6.index t 0 = 0 ∧ win0_6.index t 1 = 0 := ⟨rfl, rfl⟩
  unfold iblk
  rw [View.read_apply]
  show V m c main_v11 _ = V m c main_v11 j
  congr 1
  funext a
  apply Fin.ext
  match a with
  | ⟨0, _⟩ => show win0_6.index t 0 * _ + 1 * (j 0).val = (j 0).val; rw [e.1]; omega
  | ⟨1, _⟩ => show win0_6.index t 1 * _ + 1 * (j 1).val = (j 1).val; rw [e.2]; omega

/-! ## The result array -/

/-- The network on every sequence of the batch. -/
def batch : Buf (Elt Ideal) ((c : Thread nD τ).loc main_v12) := fun i =>
  net (seq m c (i 0)) (w1 m c) (b1 m c) (w2 m c) (b2 m c) (w3 m c) (b3 m c) (i 1) (i 2)

/-- What step `t` stores, in place: at sequence `g` of its block, the network on sequence `2 t + g` of the batch. -/
theorem step_apply (t : Fin cfg0.N) (g : Fin 2) (s : Fin 2048) (o : Fin 2) (n : Fin 16) (h : n.val = 2 * t.val + g.val) :
    out0_7 (iblk m c 0 t) (iblk m c 1 t) (iblk m c 2 t) (iblk m c 3 t) (iblk m c 4 t) (iblk m c 5 t) (iblk m c 6 t)
        (ix3 g s o)
      = batch m c (ix3 n s o) := by
  rw [out_apply, block0 m c t g n h, block1, block2, block3, block4, block5, block6, entry_w1, entry_w2, entry_w3,
    entry_b1, entry_b2, entry_b3]
  rfl

/-- After the last step the result array holds the network on every sequence. -/
theorem result_eq : (dats m 0 c).arrAt 7 cfg0.N = batch m c := by
  have e : ∀ t : Fin cfg0.N, win0_7.index t 0 = t.val ∧ win0_7.index t 1 = 0 ∧ win0_7.index t 2 = 0 := by decide +kernel
  refine (dats m 0 c).arrAt_eq_of_covers 7 _ (by decide +kernel) fun t _ y => ?_
  rw [after0_7]
  have hstep := step_apply m c t
  generalize out0_7 (iblk m c 0 t) (iblk m c 1 t) (iblk m c 2 t) (iblk m c 3 t) (iblk m c 4 t) (iblk m c 5 t)
    (iblk m c 6 t) = stored at hstep ⊢
  generalize batch m c = G at hstep ⊢
  have hN : t.val < 8 := lt_of_lt_of_eq t.isLt N_0
  have hg : (y 0).val < 2 := (y 0).isLt
  have hy : (cfg0.win 7).xinj (cfg0.grid.coords t) y = ix3 (y 0) (y 1) (y 2) := funext fun a => by fin_cases a <;> rfl
  have hi : ((cfg0.win 7).blk t).view.emb y = ix3 ⟨2 * t.val + (y 0).val, by omega⟩ (y 1) (y 2) := by
    funext a
    apply Fin.ext
    match a with
    | ⟨0, _⟩ => show win0_7.index t 0 * 2 + 1 * (y 0).val = 2 * t.val + (y 0).val; rw [(e t).1]; omega
    | ⟨1, _⟩ => show win0_7.index t 1 * 2048 + 1 * (y 1).val = (y 1).val; rw [(e t).2.1]; omega
    | ⟨2, _⟩ => show win0_7.index t 2 * 2 + 1 * (y 2).val = (y 2).val; rw [(e t).2.2]; omega
  rw [hy, hi]
  exact hstep (y 0) (y 1) (y 2) _ rfl

end Cert.Conv.Result

end
-- ==== Proof.Reference.lean ====
/-
  What the reference computes, at an index: its one result is the network on each sequence of the batch.
-/
module

public import proofs.«01_k».proof.Proof.Math
public import proofs.«01_k».proof.Proof.Gen.ReferenceIdeal.Run
public import Idealize.ShloMosaic.Lib.Pointwise

@[expose] public section

set_option maxRecDepth 16384

noncomputable section

namespace Cert.Conv.Reference

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- Sequence `n` of the batch. -/
def seq (n : Fin 16) : Fin 2048 → Fin 512 → EReal := fun t i => m ((c.tc : Thread nD τ).loc main_arg0) (ix3 n t i)
/-- The first layer's weights. -/
def w1 : Fin 256 → Fin 512 → Fin 5 → EReal := fun o i k => m ((c.tc : Thread nD τ).loc main_arg1) (ix3 o i k)
/-- The first layer's biases. -/
def b1 : Fin 256 → EReal := fun o => m ((c.tc : Thread nD τ).loc main_arg2) (ix1 o)
/-- The second layer's weights. -/
def w2 : Fin 256 → Fin 256 → Fin 3 → EReal := fun o i k => m ((c.tc : Thread nD τ).loc main_arg3) (ix3 o i k)
/-- The second layer's biases. -/
def b2 : Fin 256 → EReal := fun o => m ((c.tc : Thread nD τ).loc main_arg4) (ix1 o)
/-- The last layer's weights. -/
def w3 : Fin 2 → Fin 256 → Fin 1 → EReal := fun o i k => m ((c.tc : Thread nD τ).loc main_arg5) (ix3 o i k)
/-- The last layer's biases. -/
def b3 : Fin 2 → EReal := fun o => m ((c.tc : Thread nD τ).loc main_arg6) (ix1 o)

/-- The value that the reference pads with is zero. -/
theorem pad_value : FloatOps.sitofp (F := Ideal) .f32 (0#32) = (0 : EReal) := by
  show ((((0#32 : BitVec 32).toInt : ℝ)) : EReal) = 0
  simp

/-- A convolution of width five as the reference sums it: the products of the padded sequence, then the bias. -/
theorem five_products {C O : ℕ} (x : Fin 2048 → Fin C → EReal) (w : Fin O → Fin C → Fin 5 → EReal) (b : Fin O → EReal)
    (t : Fin 2048) (o : Fin O) (p : Fin C → Fin 2052 → EReal) (hp : ∀ i s, p i s = padded (fun s => x s i) 2 s.val)
    (n0 n1 n2 n3 n4 : Fin 2052) (e0 : n0.val = t.val) (e1 : n1.val = t.val + 1) (e2 : n2.val = t.val + 2)
    (e3 : n3.val = t.val + 3) (e4 : n4.val = t.val + 4) :
    (∑ i, w o i 0 * p i n0) + (∑ i, w o i 1 * p i n1) + (∑ i, w o i 2 * p i n2) + (∑ i, w o i 3 * p i n3)
      + (∑ i, w o i 4 * p i n4) + b o = conv 2 x w b t o := by
  unfold conv
  simp only [hp, e0, e1, e2, e3, e4, Fin.sum_univ_five, mul_comm (w o _ _)]
  rfl

/-- A convolution of width three, summed in the same way. -/
theorem three_products {C O : ℕ} (x : Fin 2048 → Fin C → EReal) (w : Fin O → Fin C → Fin 3 → EReal) (b : Fin O → EReal)
    (t : Fin 2048) (o : Fin O) (p : Fin C → Fin 2050 → EReal) (hp : ∀ i s, p i s = padded (fun s => x s i) 1 s.val)
    (n0 n1 n2 : Fin 2050) (e0 : n0.val = t.val) (e1 : n1.val = t.val + 1) (e2 : n2.val = t.val + 2) :
    (∑ i, w o i 0 * p i n0) + (∑ i, w o i 1 * p i n1) + (∑ i, w o i 2 * p i n2) + b o = conv 1 x w b t o := by
  unfold conv
  simp only [hp, e0, e1, e2, Fin.sum_univ_three, mul_comm (w o _ _)]
  rfl

/-- The reference's result at sequence `n`, time `t` and output channel `o`. -/
theorem result_apply (n : Fin 16) (t : Fin 2048) (o : Fin 2) :
    Value.res_out0 (F := Ideal) m c (ix3 n t o)
      = net (seq m c n) (w1 m c) (b1 m c) (w2 m c) (b2 m c) (w3 m c) (b3 m c) t o := by
  unfold Value.res_out0 Value.res_main_v66
  generalize hr : pad S16x256x2048 _ _ _ _ _ _ _ = r
  generalize hq : pad S16x256x2050 _ _ _ _ _ _ _ = q at hr
  generalize hp : pad S16x512x2052 _ _ _ _ _ _ _ = p at hq
  have hp' : ∀ (i : Fin 512) (s : Fin 2052), p (ix3 n i s) = padded (fun s => seq m c n s i) 2 s.val := by
    intro i s
    rw [← hp]
    clear hq hr hp
    pointwise []
    rw [pad_value]
    rfl
  have hq' : ∀ (i : Fin 256) (s : Fin 2050),
      q (ix3 n i s) = padded (fun s => layer 2 (seq m c n) (w1 m c) (b1 m c) s i) 1 s.val := by
    intro i s
    rw [← hq]
    clear hq hr hp
    pointwise []
    rw [pad_value]
    unfold padded
    refine dite_congr rfl (fun h => congrArg (max · 0) ?_) fun _ => rfl
    exact five_products (seq m c n) (w1 m c) (b1 m c) ⟨s.val - 1, h.2⟩ i (fun i s => p (ix3 n i s)) hp' _ _ _ _ _
      rfl (Nat.add_comm ..) (Nat.add_comm ..) (Nat.add_comm ..) (Nat.add_comm ..)
  have hr' : ∀ (i : Fin 256) (s : Fin 2048),
      r (ix3 n i s) = layer 1 (layer 2 (seq m c n) (w1 m c) (b1 m c)) (w2 m c) (b2 m c) s i := by
    intro i s
    rw [← hr]
    clear hq hr hp
    pointwise []
    refine congrArg (max · 0) ?_
    exact three_products _ (w2 m c) (b2 m c) s i (fun i s => q (ix3 n i s)) hq' _ _ _
      rfl (Nat.add_comm ..) (Nat.add_comm ..)
  clear hp hq hr hp' hq'
  pointwise []
  unfold net dense
  refine congrArg (· + b3 m c o) (Finset.sum_congr rfl fun i _ => ?_)
  rw [hr', mul_comm]
  rfl

end Cert.Conv.Reference

end
-- ==== Proof.lean ====
/-
  The five claims: the kernel, its idealization and the reference each run to the end, leave their arguments as they were
  and every semaphore at zero; the idealization is the kernel's own text; and over the extended reals the kernel's
  result is the reference's, at every index.
-/
module

public import proofs.«01_k».proof.Proof.Result
public import proofs.«01_k».proof.Proof.Reference
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel runs, and leaves its arguments and the semaphores as they were. -/
theorem frame_kernel : Cert.quiescent_Kernel (hKernel := Cert.Kernel.Gen.facts) := fun m ρ _ => Cert.Kernel.Gen.frame m ρ

/-- So does its idealization. -/
theorem frame_ideal : Cert.quiescent_KernelIdeal (hKernelIdeal := Cert.KernelIdeal.Gen.facts) :=
  fun m ρ _ => Cert.KernelIdeal.Gen.frame m ρ

/-- So does the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results agree, where the arguments do: both are the network on every sequence of the batch. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out0 (F := Ideal) m' c = Cert.Conv.Result.batch m c := by
  funext i
  idx_vars i
  rw [Cert.Conv.Reference.result_apply]
  unfold Cert.Conv.Reference.seq Cert.Conv.Reference.w1 Cert.Conv.Reference.b1 Cert.Conv.Reference.w2
    Cert.Conv.Reference.b2 Cert.Conv.Reference.w3 Cert.Conv.Reference.b3
  rw [h0, h1, h2, h3, h4, h5, h6]
  rfl

/-- Over the extended reals the kernel computes the reference. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Conv.Result.batch m c, ?_, ?_⟩
  · exact (θ_run Cert.KernelIdeal.defs _ _).mono
      (fun _ h c => ⟨(h c).1.trans (Cert.Conv.Result.result_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    exact same_result m m' c h0 h1 h2 h3 h4 h5 h6

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
